-- ==== Defs.lean ====
def Pre_Kernel (m : (ℓ : Loc Cert.Kernel.nD Cert.Kernel.τ Cert.Kernel.sig) → Buf (Elt Bits) ℓ) : Prop :=
  True

def Pre_Kernel_no_overflow [hPre_no_overflow : Cert.Pre_no_overflow.Facts] (m : (ℓ : Loc Cert.Kernel.nD Cert.Kernel.τ Cert.Kernel.sig) → Buf (Elt Bits) ℓ) : Prop :=
  ∀ c : Dev Cert.Kernel.nD,
    (Cert.Pre_no_overflow.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_no_overflow : Cert.Pre_no_overflow.Facts] (m : (ℓ : Loc Cert.Reference.nD Cert.Reference.τ Cert.Reference.sig) → Buf (Elt Bits) ℓ) : Prop :=
  ∀ c : Dev Cert.Reference.nD,
    (Cert.Pre_no_overflow.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_overflow [hKernel : Cert.Kernel.Facts] [hPre_no_overflow : Cert.Pre_no_overflow.Facts] : Prop :=
  ∀ (m : (ℓ : Loc Cert.Kernel.nD Cert.Kernel.τ Cert.Kernel.sig) → Buf (Elt Bits) ℓ) (g : Dev Cert.Kernel.nD → PrngReg), Pre_Kernel_no_overflow m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_no_overflow : Cert.Pre_no_overflow.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_no_overflow [hKernel : Cert.Kernel.Facts] [hReference : Cert.Reference.Facts] [hPre_no_overflow : Cert.Pre_no_overflow.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_no_overflow m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_no_overflow : Cert.Pre_no_overflow.Facts),
    quiescent_Kernel (hKernel := hKernel)
    ∧ quiescent_Kernel_pre_no_overflow (hKernel := hKernel) (hPre_no_overflow := hPre_no_overflow)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ quiescent_Reference (hReference := hReference) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
    ∧ bitexact_Kernel_Reference_pre_no_overflow (hKernel := hKernel) (hReference := hReference) (hPre_no_overflow := hPre_no_overflow)
-- ==== Pre_no_overflow.lean ====
abbrev S4096x200x64 : Shape := ⟨3, ![4096, 200, 64]⟩
abbrev S50 : Shape := ⟨1, ![50]⟩
abbrev S_ : Shape := ⟨0, ![]⟩

class Facts : Prop where
  bcast_S_S50 : S_.BroadcastsInDim S50 (![] : Fin 0 → Fin S50.rank)

variable [Facts]

def fn {F : FTy → Type} [FloatOps F] (main_arg0 : FVec F S4096x200x64 .f32) (main_arg1 : IVec S50 32) : IVec S50 1 :=
  let main_c : IVec S_ 32 := constantI S_ 32 2147483447#32
  let main_v0 : IVec S50 32 := broadcastInDim S50 ![] bcast_S_S50 main_c
  let main_v1 : IVec S50 1 := cmpi .sle main_arg1 main_v0
  main_v1
-- ==== Kernel.lean ====
abbrev S4096x200x64 : Shape := ⟨3, ![4096, 200, 64]⟩
abbrev S50 : Shape := ⟨1, ![50]⟩
abbrev S200x64x4096 : Shape := ⟨3, ![200, 64, 4096]⟩
abbrev S50x64x4096 : Shape := ⟨3, ![50, 64, 4096]⟩
abbrev S_ : Shape := ⟨0, ![]⟩
abbrev S1 : Shape := ⟨1, ![1]⟩
abbrev S1x64x4096 : Shape := ⟨3, ![1, 64, 4096]⟩
abbrev S64x4096 : Shape := ⟨2, ![64, 4096]⟩
abbrev S4096x50x64 : Shape := ⟨3, ![4096, 50, 64]⟩

abbrev nBuf : Table → Nat
  | .hbm => 5
  | .local .scScalar .smem => 1
  | _ => 0

abbrev bufTy : (tb : Table) → Fin (nBuf tb) → BufTy
  | .hbm, ⟨0, _⟩ => ⟨S4096x200x64, .f32⟩
  | .hbm, ⟨1, _⟩ => ⟨S50, .i32⟩
  | .hbm, ⟨2, _⟩ => ⟨S200x64x4096, .f32⟩
  | .hbm, ⟨3, _⟩ => ⟨S50x64x4096, .f32⟩
  | .hbm, ⟨4, _⟩ => ⟨S4096x50x64, .f32⟩
  | .local .scScalar .smem, ⟨0, _⟩ => ⟨S50, .i32⟩
  | _, _ => ⟨S4096x200x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

@[reducible] def k0_t1_loop (i : grid0.Coords) : Scf.Loop 32 :=
  let arg0 : BitVec 32 := BitVec.ofNat 32 (i 0).val
  let c25_i32 : BitVec 32 := 25#32
  let v0 : BitVec 32 := Scalar.muli arg0 c25_i32
  let c25_i32_0 : BitVec 32 := 25#32
  let v1 : BitVec 32 := Scalar.addi v0 c25_i32_0
  let v2 : BitVec 32 := Scalar.subi v1 v0
  let c1_i32 : BitVec 32 := 1#32
  let v4 : BitVec 32 := Scalar.divsi v2 c1_i32
  let v5 : BitVec 32 := Scalar.muli v4 c1_i32
  let v6 : BitVec 32 := Scalar.addi v0 v5
  let c1_i32_1 : BitVec 32 := 1#32
  ⟨v0, v6, c1_i32_1⟩
def k0_off1 (i : grid0.Coords) (k0_t1 : Fin (k0_t1_loop i).trips) : Fin 1 → Nat :=
  let arg0 : BitVec 32 := BitVec.ofNat 32 (i 0).val
  let c25_i32 : BitVec 32 := 25#32
  let v0 : BitVec 32 := Scalar.muli arg0 c25_i32
  let c1_i32_1 : BitVec 32 := 1#32
  let arg6 : BitVec 32 := Scf.iv v0 c1_i32_1 k0_t1
  let v13 : Index := Scalar.indexCast arg6
  ![v13.toNat]
def k0_off2 (i : grid0.Coords) (k0_t1 : Fin (k0_t1_loop i).trips) : Fin 3 → Nat :=
  let arg0 : BitVec 32 := BitVec.ofNat 32 (i 0).val
  let c25_i32 : BitVec 32 := 25#32
  let v0 : BitVec 32 := Scalar.muli arg0 c25_i32
  let c1_i32_1 : BitVec 32 := 1#32
  let arg6 : BitVec 32 := Scf.iv v0 c1_i32_1 k0_t1
  let c0_i32_10 : BitVec 32 := 0#32
  let c0_i32_11 : BitVec 32 := 0#32
  ![arg6.toNat, 0, 0]
def k0_off3 (v14 : BitVec 32) : Fin 3 → Nat :=
  let c200_i32 : BitVec 32 := 200#32
  let v15 : BitVec 32 := Scalar.remsi v14 c200_i32
  let c200_i32_8 : BitVec 32 := 200#32
  let v16 : BitVec 32 := Scalar.addi v15 c200_i32_8
  let c200_i32_9 : BitVec 32 := 200#32
  let v17 : BitVec 32 := Scalar.remsi v16 c200_i32_9
  let c0_i32_12 : BitVec 32 := 0#32
  let c0_i32_13 : BitVec 32 := 0#32
  ![v17.toNat, 0, 0]

def k0_chk1 (v14 : BitVec 32) : Prop :=
  (∀ a, (k0_off3 v14) a + S1x64x4096.size a ≤ S200x64x4096.size a)
theorem k0_off3_inb : ∀ (v14 : BitVec 32) (k0_hw1 : k0_chk1 v14), ∀ a, (k0_off3 v14) a + S1x64x4096.size a ≤ S200x64x4096.size a := fun v14 k0_hw1 => k0_hw1

@[reducible] def k0_t2_loop (i : grid0.Coords) : Scf.Loop 32 :=
  let arg0 : BitVec 32 := BitVec.ofNat 32 (i 0).val
  let c25_i32 : BitVec 32 := 25#32
  let v0 : BitVec 32 := Scalar.muli arg0 c25_i32
  let c25_i32_0 : BitVec 32 := 25#32
  let v1 : BitVec 32 := Scalar.addi v0 c25_i32_0
  let v2 : BitVec 32 := Scalar.subi v1 v0
  let c1_i32 : BitVec 32 := 1#32
  let v4 : BitVec 32 := Scalar.divsi v2 c1_i32
  let v5 : BitVec 32 := Scalar.muli v4 c1_i32
  let v6 : BitVec 32 := Scalar.addi v0 v5
  let v3 : BitVec 32 := Scalar.addi v0 v2
  let c1_i32_2 : BitVec 32 := 1#32
  ⟨v6, v3, c1_i32_2⟩
def k0_off4 (i : grid0.Coords) (k0_t2 : Fin (k0_t2_loop i).trips) : Fin 1 → Nat :=
  let arg0 : BitVec 32 := BitVec.ofNat 32 (i 0).val
  let c25_i32 : BitVec 32 := 25#32
  let v0 : BitVec 32 := Scalar.muli arg0 c25_i32
  let c25_i32_0 : BitVec 32 := 25#32
  let v1 : BitVec 32 := Scalar.addi v0 c25_i32_0
  let v2 : BitVec 32 := Scalar.subi v1 v0
  let c1_i32 : BitVec 32 := 1#32
  let v4 : BitVec 32 := Scalar.divsi v2 c1_i32
  let v5 : BitVec 32 := Scalar.muli v4 c1_i32
  let v6 : BitVec 32 := Scalar.addi v0 v5
  let c1_i32_2 : BitVec 32 := 1#32
  let arg6 : BitVec 32 := Scf.iv v6 c1_i32_2 k0_t2
  let v13 : Index := Scalar.indexCast arg6
  ![v13.toNat]
def k0_off5 (i : grid0.Coords) (k0_t2 : Fin (k0_t2_loop i).trips) : Fin 3 → Nat :=
  let arg0 : BitVec 32 := BitVec.ofNat 32 (i 0).val
  let c25_i32 : BitVec 32 := 25#32
  let v0 : BitVec 32 := Scalar.muli arg0 c25_i32
  let c25_i32_0 : BitVec 32 := 25#32
  let v1 : BitVec 32 := Scalar.addi v0 c25_i32_0
  let v2 : BitVec 32 := Scalar.subi v1 v0
  let c1_i32 : BitVec 32 := 1#32
  let v4 : BitVec 32 := Scalar.divsi v2 c1_i32
  let v5 : BitVec 32 := Scalar.muli v4 c1_i32
  let v6 : BitVec 32 := Scalar.addi v0 v5
  let c1_i32_2 : BitVec 32 := 1#32
  let arg6 : BitVec 32 := Scf.iv v6 c1_i32_2 k0_t2
  let c0_i32_10 : BitVec 32 := 0#32
  let c0_i32_11 : BitVec 32 := 0#32
  ![arg6.toNat, 0, 0]
def k0_off6 (v14 : BitVec 32) : Fin 3 → Nat :=
  let c200_i32 : BitVec 32 := 200#32
  let v15 : BitVec 32 := Scalar.remsi v14 c200_i32
  let c200_i32_8 : BitVec 32 := 200#32
  let v16 : BitVec 32 := Scalar.addi v15 c200_i32_8
  let c200_i32_9 : BitVec 32 := 200#32
  let v17 : BitVec 32 := Scalar.remsi v16 c200_i32_9
  let c0_i32_12 : BitVec 32 := 0#32
  let c0_i32_13 : BitVec 32 := 0#32
  ![v17.toNat, 0, 0]

def k0_chk2 (i : grid0.Coords) (k0_t2 : Fin (k0_t2_loop i).trips) (v14 : BitVec 32) : Prop :=
  (∀ a, (k0_off6 v14) a + S1x64x4096.size a ≤ S200x64x4096.size a)
theorem k0_off6_inb : ∀ (i : grid0.Coords) (k0_t2 : Fin (k0_t2_loop i).trips) (v14 : BitVec 32) (k0_hw2 : k0_chk2 i k0_t2 v14), ∀ a, (k0_off6 v14) a + S1x64x4096.size a ≤ S200x64x4096.size a := fun i k0_t2 v14 k0_hw2 => k0_hw2

@[reducible] def k0_t3_loop (i : grid0.Coords) : Scf.Loop 32 :=
  let arg0 : BitVec 32 := BitVec.ofNat 32 (i 0).val
  let c25_i32 : BitVec 32 := 25#32
  let v0 : BitVec 32 := Scalar.muli arg0 c25_i32
  let c25_i32_3 : BitVec 32 := 25#32
  let v7 : BitVec 32 := Scalar.addi v0 c25_i32_3
  let v8 : BitVec 32 := Scalar.subi v7 v0
  let c1_i32_5 : BitVec 32 := 1#32
  let v10 : BitVec 32 := Scalar.divsi v8 c1_i32_5
  let v11 : BitVec 32 := Scalar.muli v10 c1_i32_5
  let v12 : BitVec 32 := Scalar.addi v0 v11
  let c1_i32_6 : BitVec 32 := 1#32
  ⟨v0, v12, c1_i32_6⟩
def k0_off7 (i : grid0.Coords) (k0_t3 : Fin (k0_t3_loop i).trips) : Fin 3 → Nat :=
  let arg0 : BitVec 32 := BitVec.ofNat 32 (i 0).val
  let c25_i32 : BitVec 32 := 25#32
  let v0 : BitVec 32 := Scalar.muli arg0 c25_i32
  let c1_i32_6 : BitVec 32 := 1#32
  let arg6 : BitVec 32 := Scf.iv v0 c1_i32_6 k0_t3
  let c0_i32_9 : BitVec 32 := 0#32
  let c0_i32_10 : BitVec 32 := 0#32
  ![arg6.toNat, 0, 0]
@[reducible] def k0_t4_loop (i : grid0.Coords) : Scf.Loop 32 :=
  let arg0 : BitVec 32 := BitVec.ofNat 32 (i 0).val
  let c25_i32 : BitVec 32 := 25#32
  let v0 : BitVec 32 := Scalar.muli arg0 c25_i32
  let c25_i32_3 : BitVec 32 := 25#32
  let v7 : BitVec 32 := Scalar.addi v0 c25_i32_3
  let v8 : BitVec 32 := Scalar.subi v7 v0
  let c1_i32_5 : BitVec 32 := 1#32
  let v10 : BitVec 32 := Scalar.divsi v8 c1_i32_5
  let v11 : BitVec 32 := Scalar.muli v10 c1_i32_5
  let v12 : BitVec 32 := Scalar.addi v0 v11
  let v9 : BitVec 32 := Scalar.addi v0 v8
  let c1_i32_7 : BitVec 32 := 1#32
  ⟨v12, v9, c1_i32_7⟩
def k0_off8 (i : grid0.Coords) (k0_t4 : Fin (k0_t4_loop i).trips) : Fin 3 → Nat :=
  let arg0 : BitVec 32 := BitVec.ofNat 32 (i 0).val
  let c25_i32 : BitVec 32 := 25#32
  let v0 : BitVec 32 := Scalar.muli arg0 c25_i32
  let c25_i32_3 : BitVec 32 := 25#32
  let v7 : BitVec 32 := Scalar.addi v0 c25_i32_3
  let v8 : BitVec 32 := Scalar.subi v7 v0
  let c1_i32_5 : BitVec 32 := 1#32
  let v10 : BitVec 32 := Scalar.divsi v8 c1_i32_5
  let v11 : BitVec 32 := Scalar.muli v10 c1_i32_5
  let v12 : BitVec 32 := Scalar.addi v0 v11
  let c1_i32_7 : BitVec 32 := 1#32
  let arg6 : BitVec 32 := Scf.iv v12 c1_i32_7 k0_t4
  let c0_i32_9 : BitVec 32 := 0#32
  let c0_i32_10 : BitVec 32 := 0#32
  ![arg6.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4096x200x64 : Shape := ⟨3, ![4096, 200, 64]⟩
abbrev S50 : Shape := ⟨1, ![50]⟩
abbrev S_ : Shape := ⟨0, ![]⟩
abbrev S50x1 : Shape := ⟨2, ![50, 1]⟩
abbrev S1 : Shape := ⟨1, ![1]⟩
abbrev S1x1 : Shape := ⟨2, ![1, 1]⟩
abbrev S4096x50x64 : Shape := ⟨3, ![4096, 50, 64]⟩

abbrev nBuf : Space → Nat
  | .hbm => 50
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S50, .i32⟩
  | .hbm, ⟨2, _⟩ => ⟨S_, .i32⟩
  | .hbm, ⟨3, _⟩ => ⟨S50, .i32⟩
  | .hbm, ⟨4, _⟩ => ⟨S50, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S50, .i32⟩
  | .hbm, ⟨12, _⟩ => ⟨S50, .i32⟩
  | .hbm, ⟨13, _⟩ => ⟨S_, .i32⟩
  | .hbm, ⟨14, _⟩ => ⟨S50, .i32⟩
  | .hbm, ⟨15, _⟩ => ⟨S50, .i1⟩
  | .hbm, ⟨16, _⟩ => ⟨S_, .i32⟩
  | .hbm, ⟨17, _⟩ => ⟨S50, .i32⟩
  | .hbm, ⟨18, _⟩ => ⟨S50, .i1⟩
  | .hbm, ⟨19, _⟩ => ⟨S_, .i32⟩
  | .hbm, ⟨20, _⟩ => ⟨S_, .i1⟩
  | .hbm, ⟨21, _⟩ => ⟨S50, .i1⟩
  | .hbm, ⟨22, _⟩ => ⟨S50, .i1⟩
  | .hbm, ⟨23, _⟩ => ⟨S50, .i1⟩
  | .hbm, ⟨24, _⟩ => ⟨S50, .i32⟩
  | .hbm, ⟨25, _⟩ => ⟨S50, .i32⟩
  | .hbm, ⟨26, _⟩ => ⟨S50, .i32⟩
  | .hbm, ⟨27, _⟩ => ⟨S_, .i32⟩
  | .hbm, ⟨28, _⟩ => ⟨S50, .i32⟩
  | .hbm, ⟨29, _⟩ => ⟨S50, .i1⟩
  | .hbm, ⟨30, _⟩ => ⟨S_, .i32⟩
  | .hbm, ⟨31, _⟩ => ⟨S50, .i32⟩
  | .hbm, ⟨32, _⟩ => ⟨S50, .i32⟩
  | .hbm, ⟨33, _⟩ => ⟨S50, .i32⟩
  | .hbm, ⟨34, _⟩ => ⟨S50x1, .i32⟩
  | .hbm, ⟨35, _⟩ => ⟨S1, .i32⟩
  | .hbm, ⟨36, _⟩ => ⟨S_, .i32⟩
  | .hbm, ⟨37, _⟩ => ⟨S50x1, .i32⟩
  | .hbm, ⟨38, _⟩ => ⟨S50x1, .i1⟩
  | .hbm, ⟨39, _⟩ => ⟨S1x1, .i32⟩
  | .hbm, ⟨40, _⟩ => ⟨S50x1, .i32⟩
  | .hbm, ⟨41, _⟩ => ⟨S50x1, .i1⟩
  | .hbm, ⟨42, _⟩ => ⟨S50x1, .i1⟩
  | .hbm, ⟨43, _⟩ => ⟨S_, .i1⟩
  | .hbm, ⟨44, _⟩ => ⟨S50, .i1⟩
  | .hbm, ⟨45, _⟩ => ⟨S4096x50x64, .f32⟩
  | .hbm, ⟨46, _⟩ => ⟨S4096x50x64, .i1⟩
  | .hbm, ⟨47, _⟩ => ⟨S_, .f32⟩
  | .hbm, ⟨48, _⟩ => ⟨S4096x50x64, .f32⟩
  | .hbm, ⟨49, _⟩ => ⟨S4096x50x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v3 : Ref sig .tc := ⟨.hbm, 49, rfl⟩

abbrev nD : Nat := 1
abbrev τ : Topo := Topo.v7x

variable {F : FTy → Type} [FloatOps F]
-- ==== Proof.Words.lean ====
/- The row an index word names: the kernel's three-step remainder is the index's remainder by 200, for every
   word; and the reference's, when the sum it forms first does not leave the word. -/
module

public import proofs.«01_k».proof.Defs
public import proofs.«01_k».proof.Proof.Gen.KernelIdeal
public import Idealize.ShloMosaic.Lib.Affine

@[expose] public section

namespace Cert.Rows

open Idealize.ShloMosaic

/-- The row of the table an index word names: as the kernel computes it, `rem(rem(w, 200) + 200, 200)`. -/
def rowW (w : BitVec 32) : BitVec 32 := Scalar.remsi (Scalar.addi (Scalar.remsi w 200#32) 200#32) 200#32

theorem toInt_rem200 (x : BitVec 32) : (Scalar.remsi x 200#32).toInt = x.toInt.tmod 200 := by
  show (IntOp.remsi .scalar x 200#32).toInt = _
  rw [IntOp.remsi_of_pos .scalar (by decide), BitVec.toInt_srem]
  rfl

/-- The truncated remainder by 200 is the floored one, or 200 less. -/
theorem tmod_cases (z : Int) : z.tmod 200 = z % 200 ∨ (z.tmod 200 = z % 200 - 200 ∧ 0 < z % 200) := by
  rcases Int.le_total 0 z with h | h
  · exact Or.inl (Int.tmod_eq_emod_of_nonneg h)
  · have e : z.tmod 200 = -((-z).tmod 200) := by rw [Int.neg_tmod, Int.neg_neg]
    rw [e, Int.tmod_eq_emod_of_nonneg (by omega)]
    omega

/-- It is the index's remainder by 200 (the one in `[0, 200)`), whatever the word. -/
theorem toInt_rowW (w : BitVec 32) : (rowW w).toInt = w.toInt % 200 := by
  unfold rowW
  rw [toInt_rem200]
  show (Scalar.remsi w 200#32 + 200#32).toInt.tmod 200 = _
  rw [BitVec.toInt_add, toInt_rem200, show (200#32 : BitVec 32).toInt = 200 by decide]
  have h1 := tmod_cases w.toInt
  rw [Int.bmod_eq_of_le (by omega) (by omega), Int.tmod_eq_emod_of_nonneg (by omega)]
  omega

theorem rowW_lt (w : BitVec 32) : (rowW w).toNat < 200 := by
  have h := toInt_rowW w
  have h2 := BitVec.toInt_eq_toNat_cond (rowW w)
  have h3 := (rowW w).isLt
  split at h2 <;> omega

theorem toNat_rowW (w : BitVec 32) : ((rowW w).toNat : Int) = w.toInt % 200 := by
  rw [← toInt_rowW, BitVec.toInt_eq_toNat_of_lt (by have := rowW_lt w; omega)]

/-! ## The reference's row -/

/-- The reference's remainder of an index word: of the sum with 200, truncated, then moved up by 200 if its sign is not
    the divisor's. -/
def modW (w : BitVec 32) : BitVec 32 :=
  let k := Scalar.select (IntOp.cmpi .eq 200#32 0#32) 1#32 200#32
  let r := IntOp.remsi .host (IntOp.addi w 200#32) k
  Scalar.select (IntOp.andi (IntOp.cmpi .ne (IntOp.cmpi .slt r 0#32) (IntOp.cmpi .slt k 0#32)) (IntOp.cmpi .ne r 0#32)) (IntOp.addi r k) r

/-- The row it looks up: a negative one would count from the end. -/
def startW (w : BitVec 32) : BitVec 32 :=
  Scalar.select (IntOp.cmpi .slt (modW w) 0#32) (IntOp.addi (modW w) 200#32) (modW w)

/-- The remainder is the index's, when the sum stays in the word. -/
theorem toInt_modW (w : BitVec 32) (h : w.toInt ≤ 2147483447) : (modW w).toInt = w.toInt % 200 := by
  have hk : Scalar.select (IntOp.cmpi .eq 200#32 0#32) 1#32 200#32 = 200#32 := by decide
  have hlo := BitVec.le_toInt w
  have hs : (IntOp.addi w 200#32).toInt = w.toInt + 200 := by
    show (w + 200#32).toInt = _
    rw [BitVec.toInt_add, show (200#32 : BitVec 32).toInt = 200 by decide, Int.bmod_eq_of_le (by omega) (by omega)]
  unfold modW
  simp only [hk]
  have hr : (IntOp.remsi .host (IntOp.addi w 200#32) 200#32).toInt = (w.toInt + 200).tmod 200 := by
    rw [IntOp.remsi_of_pos .host (by decide), BitVec.toInt_srem, hs]; rfl
  generalize IntOp.remsi .host (IntOp.addi w 200#32) 200#32 = r at hr ⊢
  have hc := tmod_cases (w.toInt + 200)
  rw [← hr] at hc
  have he : (w.toInt + 200) % 200 = w.toInt % 200 := by omega
  rw [he] at hc
  have hadd : (IntOp.addi r 200#32).toInt = r.toInt + 200 := by
    show (r + 200#32).toInt = _
    rw [BitVec.toInt_add, show (200#32 : BitVec 32).toInt = 200 by decide, Int.bmod_eq_of_le (by omega) (by omega)]
  have h200 : IntOp.cmpi .slt 200#32 0#32 = 0#1 := by decide
  rw [h200]
  by_cases hneg : r.toInt < 0
  · have h1 : IntOp.cmpi .slt r 0#32 = 1#1 := by
      show BitVec.ofBool (r.slt 0#32) = _
      rw [BitVec.slt, show (0#32 : BitVec 32).toInt = 0 by decide, decide_eq_true hneg]; rfl
    have h2 : IntOp.cmpi .ne r 0#32 = 1#1 := by
      have : r ≠ 0#32 := by rintro rfl; exact absurd hneg (by decide)
      show BitVec.ofBool (r != 0#32) = _
      rw [bne_iff_ne.mpr this]; rfl
    rw [h1, h2, show Scalar.select (IntOp.andi (IntOp.cmpi .ne 1#1 0#1) 1#1) (IntOp.addi r 200#32) r = IntOp.addi r 200#32 from rfl, hadd]
    omega
  · have h1 : IntOp.cmpi .slt r 0#32 = 0#1 := by
      show BitVec.ofBool (r.slt 0#32) = _
      rw [BitVec.slt, show (0#32 : BitVec 32).toInt = 0 by decide, decide_eq_false hneg]; rfl
    have h2 : IntOp.andi (IntOp.cmpi .ne (0#1 : BitVec 1) 0#1) (IntOp.cmpi .ne r 0#32) = 0#1 := by
      show 0#1 &&& IntOp.cmpi .ne r 0#32 = 0#1
      exact BitVec.zero_and
    rw [h1, h2]
    show r.toInt = _
    omega

/-- So the row looked up is the kernel's, and inside the table. -/
theorem startW_eq (w : BitVec 32) (h : w.toInt ≤ 2147483447) : startW w = rowW w := by
  have hm := toInt_modW w h
  have h1 : IntOp.cmpi .slt (modW w) 0#32 = 0#1 := by
    show BitVec.ofBool ((modW w).slt 0#32) = _
    rw [BitVec.slt, show (0#32 : BitVec 32).toInt = 0 by decide, decide_eq_false (by omega)]; rfl
  unfold startW
  rw [h1]
  show modW w = _
  exact BitVec.toInt_inj.mp (hm.trans (toInt_rowW w).symm)

/-- The reference's range test of a row the kernel names. -/
theorem inRange (w : BitVec 32) : IntOp.andi (IntOp.cmpi .sge (rowW w) 0#32) (IntOp.cmpi .sle (rowW w) 199#32) = 1#1 := by
  have hm := toInt_rowW w
  show BitVec.ofBool ((0#32).sle (rowW w)) &&& BitVec.ofBool ((rowW w).sle 199#32) = _
  rw [BitVec.sle, BitVec.sle, show (0#32 : BitVec 32).toInt = 0 by decide, show (199#32 : BitVec 32).toInt = 199 by decide,
    decide_eq_true (by omega), decide_eq_true (by omega)]
  rfl

end Cert.Rows
-- ==== Proof.Rows.lean ====
/- The rows the kernel moves, and the value it leaves.

   The table is `S200x64x4096`, the result `S50x64x4096`: a transfer moves one whole row of the first axis of the
   table to one whole row of the result. Here are those rows as memrefs and as sets of elements (disjoint, and together
   the result), the equations by which the body's own memrefs are these, and the contents `gat X ind` the 50 transfers
   leave: row `j` is the table's row `rowW (ind j)`. -/
module

public import proofs.«01_k».proof.Proof.Words
public import proofs.«01_k».proof.Proof.Gen.KernelIdeal.Skeleton
public import Idealize.ShloMosaic.Lib.Pointwise.Index
public import Idealize.ShloMosaic.Lib.Ring
public import Idealize.ShloMosaic.Lib.Tactic

@[expose] public section

noncomputable section

namespace Cert.Rows

open Cert.KernelIdeal Cert.KernelIdeal.Gen
open Idealize.ShloMosaic Idealize.ShloMosaic.Tactic

/-! ## The memrefs -/

theorem dst_inb (j : Fin 50) : ∀ a, (![j.val, 0, 0] : Fin 3 → Nat) a + S1x64x4096.size a ≤ S50x64x4096.size a := by
  have := j.isLt; intro a; fin_cases a <;> simp <;> omega
theorem src_inb (r : Fin 200) : ∀ a, (![r.val, 0, 0] : Fin 3 → Nat) a + S1x64x4096.size a ≤ S200x64x4096.size a := by
  have := r.isLt; intro a; fin_cases a <;> simp <;> omega

/-- Row `j` of the result, as an array of its own. -/
def dstM (j : Fin 50) : Memref sig .scScalar .hbm S64x4096 .f32 :=
  ((Memref.whole main_v1_scs).slice (Rect.unit (s := S50x64x4096) ![j.val, 0, 0] S1x64x4096.size (dst_inb j)) (fun _ => rfl)).squeeze S64x4096 squeezes_S1x64x4096_S64x4096
/-- Row `r` of the table, likewise. -/
def srcM (r : Fin 200) : Memref sig .scScalar .hbm S64x4096 .f32 :=
  ((Memref.whole main_v0_scs).slice (Rect.unit (s := S200x64x4096) ![r.val, 0, 0] S1x64x4096.size (src_inb r)) (fun _ => rfl)).squeeze S64x4096 squeezes_S1x64x4096_S64x4096

/-- Row `j`'s elements in the result, row `r`'s in the table. -/
def dstSet (j : Fin 50) : Finset S50x64x4096.Idx := (Rect.unit (s := S50x64x4096) ![j.val, 0, 0] S1x64x4096.size (dst_inb j)).set
def srcSet (r : Fin 200) : Finset S200x64x4096.Idx := (Rect.unit (s := S200x64x4096) ![r.val, 0, 0] S1x64x4096.size (src_inb r)).set

theorem dstM_set (j : Fin 50) : (dstM j).view.set = dstSet j := by
  unfold dstM dstSet; exact (View.set_reshape _ _).trans (View.set_slice_whole _ _)
theorem srcM_set (r : Fin 200) : (srcM r).view.set = srcSet r := by
  unfold srcM srcSet; exact (View.set_reshape _ _).trans (View.set_slice_whole _ _)

theorem mem_dstSet {j : Fin 50} {i : S50x64x4096.Idx} : i ∈ dstSet j ↔ i 0 = j := by
  unfold dstSet
  rw [Rect.mem_set_unit]
  refine ⟨fun h => Fin.ext ?_, fun h a => ?_⟩
  · have := h 0; simp at this; omega
  · subst h
    have h1 := (i 1).isLt
    have h2 := (i 2).isLt
    fin_cases a <;> simp <;> first | exact h1 | exact h2

/-- The row of the result with number `25 * c + k`: the `k`-th of SparseCore `c`'s. -/
def rowOf (c : Fin 2) (k : Fin 25) : Fin 50 := ⟨25 * c.val + k.val, by have := c.isLt; have := k.isLt; omega⟩

theorem rowOf_inj (c : Fin 2) {k k' : Fin 25} (h : rowOf c k = rowOf c k') : k = k' := by
  have := congrArg Fin.val h; simp only [rowOf] at this; exact Fin.ext (by omega)

/-- SparseCore `c`'s rows of the result. -/
def half (c : Fin 2) : Finset S50x64x4096.Idx := Finset.univ.biUnion fun k => dstSet (rowOf c k)

theorem dst_disjoint (c : Fin 2) (k k' : Fin 25) (h : k ≠ k') : Disjoint (dstSet (rowOf c k)) (dstSet (rowOf c k')) := by
  rw [Finset.disjoint_left]; intro i hi hi'
  exact h (rowOf_inj c ((mem_dstSet.mp hi).symm.trans (mem_dstSet.mp hi')))

theorem mem_half {c : Fin 2} {i : S50x64x4096.Idx} : i ∈ half c ↔ (i 0).val / 25 = c.val := by
  simp only [half, Finset.mem_biUnion, Finset.mem_univ, true_and, mem_dstSet]
  constructor
  · rintro ⟨k, hk⟩
    rw [hk]; have := k.isLt; simp only [rowOf]; omega
  · intro h
    exact ⟨⟨(i 0).val % 25, by omega⟩, Fin.ext (by simp only [rowOf]; omega)⟩

theorem half_disjoint (c c' : Fin 2) (h : c ≠ c') : Disjoint (half c) (half c') := by
  rw [Finset.disjoint_left]; intro i hi hi'
  exact h (Fin.ext ((mem_half.mp hi).symm.trans (mem_half.mp hi')))

theorem half_cover : Finset.univ.biUnion half = Finset.univ := by
  refine Finset.eq_univ_iff_forall.mpr fun i => ?_
  have := (i 0).isLt
  simp only [Finset.mem_biUnion, Finset.mem_univ, true_and]
  exact ⟨⟨(i 0).val / 25, by simp at this ⊢; omega⟩, mem_half.mpr rfl⟩

/-! ## The body's memrefs are these -/

/-- The SparseCore of a grid point. -/
def core (i : grid0.Coords) : Fin 2 := i 0

/-- The row of the table a word names. -/
def rowF (w : BitVec 32) : Fin 200 := ⟨(rowW w).toNat, rowW_lt w⟩

theorem off3_eq (w : BitVec 32) : k0_off3 w = ![(rowF w).val, 0, 0] := rfl

/-- The transfer's row lies in the table, whatever the word. -/
theorem chk1 (w : BitVec 32) : k0_chk1 w := fun a => by
  rw [off3_eq]; exact src_inb (rowF w) a

theorem trips1 : ∀ i : grid0.Coords, (k0_t1_loop i).trips = 25 := by decide +kernel
theorem trips3 : ∀ i : grid0.Coords, (k0_t3_loop i).trips = 25 := by decide +kernel

@[sl_canon] theorem canon_dst (i : grid0.Coords) (k : Fin (k0_t1_loop i).trips) :
    ((Memref.whole main_v1_scs).slice (Rect.unit (s := S50x64x4096) (k0_off2 i k) S1x64x4096.size (k0_off2_inb i k)) (fun _ => rfl)).squeeze S64x4096 squeezes_S1x64x4096_S64x4096
      = dstM (rowOf (core i) (k.cast (trips1 i))) :=
  congrArg (fun M : Memref sig .scScalar .hbm S1x64x4096 .f32 => M.squeeze S64x4096 squeezes_S1x64x4096_S64x4096)
    (Memref.slice_unit_congr _ (k0_off2_eq i k) _ _ (fun _ => rfl) (fun _ => rfl))

@[sl_canon] theorem canon_wait (i : grid0.Coords) (k : Fin (k0_t3_loop i).trips) :
    ((Memref.whole main_v1_scs).slice (Rect.unit (s := S50x64x4096) (k0_off7 i k) S1x64x4096.size (k0_off7_inb i k)) (fun _ => rfl)).squeeze S64x4096 squeezes_S1x64x4096_S64x4096
      = dstM (rowOf (core i) (k.cast (trips3 i))) :=
  congrArg (fun M : Memref sig .scScalar .hbm S1x64x4096 .f32 => M.squeeze S64x4096 squeezes_S1x64x4096_S64x4096)
    (Memref.slice_unit_congr _ (k0_off7_eq i k) _ _ (fun _ => rfl) (fun _ => rfl))

/-! ## The value -/

variable {F : FTy → Type}

/-- What the kernel leaves in the result: row `j` is row `rowW (ind j)` of the table. -/
def gat (X : S200x64x4096.Idx → Elt F .f32) (ind : S50.Idx → Elt F .i32) : S50x64x4096.Idx → Elt F .f32 :=
  fun y => X (ix3 (rowF (ind (ix1 (y 0)))) (y 1) (y 2))

/-- A row's element's place in the one-row block the row is squeezed from. -/
def place (x : S64x4096.Idx) : S1x64x4096.Idx := Shape.reshapeEquiv squeezes_S1x64x4096_S64x4096.numel_eq x

theorem place_zero (x : S64x4096.Idx) : (place x 0).val = 0 := by
  have h : (place x 0).val < 1 := (place x 0).isLt
  omega

theorem dst_emb (j : Fin 50) (x : S64x4096.Idx) : (dstM j).view.emb x = ix3 (n0 := 50) (n1 := 64) (n2 := 4096) j (place x 1) (place x 2) := by
  have h0 := place_zero x
  funext a
  apply Fin.ext
  match a with
  | ⟨0, _⟩ => show j.val + 1 * (place x 0).val = j.val; omega
  | ⟨1, _⟩ => show 0 + 1 * (place x 1).val = (place x 1).val; omega
  | ⟨2, _⟩ => show 0 + 1 * (place x 2).val = (place x 2).val; omega

theorem src_emb (r : Fin 200) (x : S64x4096.Idx) : (srcM r).view.emb x = ix3 (n0 := 200) (n1 := 64) (n2 := 4096) r (place x 1) (place x 2) := by
  have h0 := place_zero x
  funext a
  apply Fin.ext
  match a with
  | ⟨0, _⟩ => show r.val + 1 * (place x 0).val = r.val; omega
  | ⟨1, _⟩ => show 0 + 1 * (place x 1).val = (place x 1).val; omega
  | ⟨2, _⟩ => show 0 + 1 * (place x 2).val = (place x 2).val; omega

/-- A transfer into row `j` from the row its index word names leaves `gat` on row `j`. -/
theorem landed (X : S200x64x4096.Idx → Elt F .f32) (ind : S50.Idx → Elt F .i32) (fd : S50x64x4096.Idx → Elt F .f32) (j : Fin 50) :
    ∀ y ∈ dstSet j, (dstM j).view.write (Elt F) fd ((srcM (rowF (ind (ix1 j)))).view.read (Elt F) X) Finset.univ y = gat X ind y := by
  intro y hy
  rw [← dstM_set] at hy
  obtain ⟨x, -, rfl⟩ := Finset.mem_map.mp hy
  refine ((dstM j).view.write_emb_of_mem _ _ (Finset.mem_univ x)).trans ?_
  show X ((srcM (rowF (ind (ix1 j)))).view.emb x) = gat X ind ((dstM j).view.emb x)
  rw [src_emb, dst_emb]
  rfl

end Cert.Rows
-- ==== Proof.Setup.lean ====
/- The program as the launch theorem sees it: the call's configuration, the resource algebra, the arrays' locations,
   what the call hands each SparseCore's sequencer and takes back. -/
module

public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Transfers
public import Idealize.ShloMosaic.Lib.Batch

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The algebra: the handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The arrays -/

abbrev vLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

/-- The share of the table, and of the indices, that SparseCore `c` reads by: half. -/
def shr : Fin 2 → PosShare TreeShare := ![(fullShare : PosShare TreeShare).left, (fullShare : PosShare TreeShare).right]

/-- What the call hands SparseCore `c` and takes back: its shares of the table at `X` and of the indices at `ind`, its
    rows of the result at `f`. -/
def coreRes (d : Dev nD) (X : Buf (Elt F) (vLoc d)) (ind : Buf (Elt F) (iLoc d)) (c : Fin 2) (f : Buf (Elt F) (oLoc d)) : sProp 𝕄 :=
  iprop((vLoc d ↦{shr c} X) ∗ (iLoc d ↦{shr c} ind) ∗ (oLoc d ↦[half c]{fullShare} f))

instance coreRes_storable (d : Dev nD) (X : Buf (Elt F) (vLoc d)) (ind : Buf (Elt F) (iLoc d)) (c : Fin 2) (f : Buf (Elt F) (oLoc d)) :
    Storable (upEmb : UEmb _ 𝕄) (coreRes d X ind c f) := by
  unfold coreRes; infer_instance

end Cert.Rows
-- ==== Proof.Issue.lean ====
/- The two loops of the body on one SparseCore's sequencer. -/
module

public import proofs.«01_k».proof.Proof.Setup
public import Idealize.ShloMosaic.Lib.Tactic

@[expose] public section

noncomputable section

namespace Cert.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-- The sequencer's thread. -/
abbrev thr : Thread nD τ := S d ((i 0).castLE hcore0)
/-- The sequencer's copy of the indices. -/
abbrev sLoc : Loc nD τ sig := (thr d i).loc cc0_scratch0

variable (X : Buf (Elt F) (vLoc d)) (ind : Buf (Elt F) (iLoc d)) (fo : Buf (Elt F) (oLoc d))

/-- The row of the result and of the table of transfer `t` of this SparseCore. -/
abbrev dRow (t : Fin 25) : Fin 50 := rowOf (core i) t
abbrev sRow (t : Fin 25) : Fin 200 := rowF (ind (ix1 (n0 := 50) (dRow i t)))
abbrev tokS (t : Fin 25) : PosShare TreeShare := Transfers.shareTok (shr (core i)) 25 t

/-- Transfer `t`'s row of the table, at a share of its own; its row of the result, at `f`. -/
def inP (t : Fin 25) : sProp 𝕄 := iprop(vLoc d ↦[srcSet (sRow d i ind t)]{tokS i t} X)
def outP (f : Buf (Elt F) (oLoc d)) (t : Fin 25) : sProp 𝕄 := iprop(oLoc d ↦[dstSet (dRow i t)]{fullShare} f)

/-- What transfer `t` delivers: its row of the result written, its row of the table back. -/
def deliv (t : Fin 25) : sProp 𝕄 := iprop(outP d i (gat X ind) t ∗ inP d i X ind t)

instance deliv_storable (t : Fin 25) : Storable (upEmb : UEmb _ 𝕄) (deliv d i X ind t) := by
  unfold deliv inP outP; infer_instance

/-- A row's amount on the gather's semaphore. -/
def amt : ℕ := (dstM 0).view.dmaCredit
theorem amt_pos : 0 < amt := (dstM 0).view.dmaCredit_pos (by decide)
theorem amt_eq (j : Fin 50) : (dstM j).view.dmaCredit = amt := rfl

/-- The batch of 25 transfers, `k` issued and `u` units waited for. -/
def bat (k u : ℕ) : sProp 𝕄 := Transfers.Batch EC (thr d i) (.dma cc0_scratch1.sem) (none : HIx 1) amt (deliv d i X ind) k u

/-- Before trip `k` of the issue loop: `k` transfers issued, the other transfers' rows in hand, the indices in scalar memory. -/
def issueInv (k : ℕ) (_ : Unit) : sProp 𝕄 :=
  iprop(bat d i X ind k 0 ∗ bigSep (Ring.rangeSet 25 k 25) (fun t => iprop(inP d i X ind t ∗ outP d i fo t)) ∗ ((Memref.whole cc0_scratch0).view.loc (thr d i) ↦{fullShare} ind))

theorem issue_step (k : Fin (k0_t1_loop i).trips) (acc : Unit) :
    issueInv d i X ind fo k.val acc ⊢ wp frame (wpE (defs₀ (F := F)) 𝒱₀ (thr d i) none) Set.univ
      (k0_t1_body i (Memref.whole main_v0_scs) (Memref.isWhole_whole _) (Memref.whole main_arg1_scs) (Memref.isWhole_whole _) (Memref.whole main_v1_scs) (Memref.isWhole_whole _) (Memref.whole cc0_scratch0) (Memref.isWhole_whole _) cc0_scratch1 cc0_scoped0 k acc)
      (issueInv d i X ind fo (k.val + 1)) := by
  have hk : k.val < 25 := lt_of_lt_of_eq k.isLt (trips1 i)
  unfold issueInv
  rw [Ring.bigSep_rangeSet_head (by omega) (by omega)]
  iintro ⟨HB, ⟨⟨Hi, Ho⟩, Hr⟩, Hs⟩
  unfold k0_t1_body
  sl_exec (disch := exact chk1 _)
  -- the word read is the index of this trip's row
  have hr : issue_step.sl.r d i ind k = ind (ix1 (n0 := 50) (dRow i ⟨k.val, hk⟩)) := by
    show ind _ = ind _
    congr 1
    funext a
    apply Fin.ext
    match a with
    | ⟨0, _⟩ => show k0_off1 i k 0 + 1 * 0 = 25 * (i 0).val + k.val; rw [k0_off1_eq]; simp
  generalize issue_step.sl.r d i ind k = w at hr ⊢
  subst hr
  unfold bat inP outP
  iapply (Transfers.wp_dmaBatch EC 𝒱₀ (thr d i) none (src := srcM (sRow d i ind ⟨k.val, hk⟩)) (dst := dstM (dRow i ⟨k.val, hk⟩)) (sm := .dma cc0_scratch1.sem)
    (Sd := dstSet (dRow i ⟨k.val, hk⟩)) (fs := X) (fd := fo) (q := tokS i ⟨k.val, hk⟩) (D := deliv d i X ind) (j := k.val) (u := 0)
    (none : HIx 1) amt (amt_eq _) (dstM_set _).le hk (Nat.zero_le _) ?hD) $$ [Hi Ho HB]
  case hD =>
    unfold deliv outP inP
    rw [srcM_set]
    exact BI.sep_mono_l (Entails.of_eq (pointsTo_congr (landed X ind fo (dRow i ⟨k.val, hk⟩))))
  · rw [srcM_set]
    isplitl [Hi]; · iexact Hi
    isplitl [Ho]; · iexact Ho
    iexact HB
  iintro HB
  sl_step
  isplitl [HB]; · iexact HB
  isplitl [Hr]; · iexact Hr
  iexact Hs

/-- Before trip `k` of the waiting loop: all 25 issued, `k` rows' units waited for. -/
def drainInv (O : CellTallies nD τ sig (HIx 1)) (W : Waits sig (HIx 1)) (k : ℕ) (_ : Unit) : sProp 𝕄 :=
  iprop(bat d i X ind 25 (k * amt) ∗ MayWait (thr d i) (.dma cc0_scratch1.sem) none O
    ∗ ∃ W', ⌜∀ p ∈ W', p ∈ W ∨ p.2 = none⌝ ∗ owes (thr d i) O W')

theorem drain_step (O : CellTallies nD τ sig (HIx 1)) (W : Waits sig (HIx 1)) (k : Fin (k0_t3_loop i).trips) (acc : Unit) :
    drainInv d i X ind O W k.val acc ⊢ wp frame (wpE (defs₀ (F := F)) 𝒱₀ (thr d i) none) Set.univ
      (k0_t3_body i (Memref.whole main_v0_scs) (Memref.isWhole_whole _) (Memref.whole main_arg1_scs) (Memref.isWhole_whole _) (Memref.whole main_v1_scs) (Memref.isWhole_whole _) (Memref.whole cc0_scratch0) (Memref.isWhole_whole _) cc0_scratch1 cc0_scoped0 k acc)
      (drainInv d i X ind O W (k.val + 1)) := by
  have hk : k.val < 25 := lt_of_lt_of_eq k.isLt (trips3 i)
  unfold drainInv bat k0_t3_body
  iintro ⟨HB, #HM, %W', %hW, HO⟩
  sl_exec
  iapply (Transfers.wp_waitBatchMulO EC 𝒱₀ (thr d i) none (none : HIx 1) 1 (N := amt) (D := deliv d i X ind) (j := 25) (u := k.val * amt) (O := O) (W := W')
    (dstw := dstM (dRow i ⟨k.val, hk⟩)) ((amt_eq _).trans (Nat.one_mul _).symm)
    (by rw [← Nat.add_mul, Nat.mul_comm amt]; exact Nat.mul_le_mul_right _ hk)) $$ [HB HO]
  · isplitl [HB]; · iexact HB
    isplitl [HO]; · iexact HO
    iexact HM
  iintro ⟨HB, HO⟩
  sl_step
  rw [show k.val * amt + 1 * amt = (k.val + 1) * amt by rw [← Nat.add_mul]]
  isplitl [HB]; · iexact HB
  isplitr; · iexact HM
  iexists (insert ((SemLoc.dma cc0_scratch1.sem : SemLoc sig), (none : HIx 1)) W')
  isplitr
  · ipureintro
    intro p hp
    rcases Finset.mem_insert.mp hp with h | h
    · exact .inr (congrArg Prod.snd h)
    · exact hW p h
  iexact HO

end Cert.Rows
-- ==== Proof.Body.lean ====
/- The body on one SparseCore's sequencer: from its shares of the table and the indices and its rows of the result, to
   the same with `gat` on its rows. -/
module

public import proofs.«01_k».proof.Proof.Issue
public import Idealize.ShloMosaic.Lib.Tactic

@[expose] public section

noncomputable section

namespace Cert.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

variable (X : Buf (Elt F) (vLoc d)) (ind : Buf (Elt F) (iLoc d)) (fo : Buf (Elt F) (oLoc d))

/-- What is left of transfer `t`'s share of the table beside its row. -/
def restP (t : Fin 25) : sProp 𝕄 := iprop(vLoc d ↦[Finset.univ \ srcSet (sRow d i ind t)]{tokS i t} X)

omit [FloatOps F] in
/-- The table's share dealt to the 25 transfers: each its row, the rest set aside. -/
theorem deal_in : (vLoc d ↦{shr (core i)} X : sProp 𝕄)
    ⊣⊢ iprop((vLoc d ↦{Transfers.shareDrop (shr (core i)) 25} X) ∗ bigSep Finset.univ (inP d i X ind) ∗ bigSep Finset.univ (restP d i X ind)) := by
  have h : (bigSep Finset.univ fun t : Fin 25 => (vLoc d ↦{Transfers.shareTok (shr (core i)) 25 t} X : sProp 𝕄))
      = iprop(bigSep Finset.univ (inP d i X ind) ∗ bigSep Finset.univ (restP d i X ind)) := by
    rw [← bigSep_sep']
    exact bigSep_congr fun t _ => by
      unfold inP restP
      exact (pointsTo_split_subset (Finset.subset_univ _)).1.antisymm (pointsTo_split_subset (Finset.subset_univ _)).2
  rw [← h]
  exact Transfers.pointsTo_toks _ _

omit [FloatOps F] in
/-- This SparseCore's rows of the result, row by row. -/
theorem deal_out (f : Buf (Elt F) (oLoc d)) : (oLoc d ↦[half (core i)]{fullShare} f : sProp 𝕄) = bigSep Finset.univ (outP d i f) :=
  pointsTo_biUnion (ℓ := oLoc d) Finset.univ (fun t : Fin 25 => dstSet (rowOf (core i) t)) (fun b _ b' _ h => dst_disjoint (core i) b b' h)

omit [FloatOps F] in
/-- All 25 deliveries: every row of the result, every row of the table. -/
theorem deliv_all : (bigSep Finset.univ (deliv d i X ind) : sProp 𝕄)
    = iprop(bigSep Finset.univ (outP d i (gat X ind)) ∗ bigSep Finset.univ (inP d i X ind)) :=
  (bigSep_congr fun _ _ => by rw [deliv]).trans (bigSep_sep' Finset.univ (outP d i (gat X ind)) (inP d i X ind))

/-- The run, in the body's spelling: the indices copied, 25 transfers issued on one semaphore, all of them waited for,
    and only then their rows taken. -/
theorem seq_run (O : CellTallies nD τ sig (HIx 1)) (W : Waits sig (HIx 1)) (fs : Buf (Elt F) ((Memref.whole cc0_scratch0).view.loc (thr d i))) :
    (iprop(Transfers.MayWaits (thr d i) (none : HIx 1) O
        ∗ (vLoc d ↦{shr (core i)} X)
        ∗ ((Memref.whole main_arg1_scs).view.loc (thr d i) ↦{shr (core i)} ind)
        ∗ (oLoc d ↦[half (core i)]{fullShare} fo)
        ∗ ((Memref.whole cc0_scratch0).view.loc (thr d i) ↦{fullShare} fs)
        ∗ semVal (thr d i, SemLoc.dma cc0_scratch1.sem) 0
        ∗ semVal (thr d i, SemLoc.dma cc0_scoped0.sem) 0
        ∗ owes (thr d i) O W) : sProp 𝕄)
      ⊢ wp frame (wpE (defs₀ (F := F)) 𝒱₀ (thr d i) none) Set.univ
          (cc0__sc_gather i (Memref.whole main_v0_scs) (Memref.isWhole_whole _) (Memref.whole main_arg1_scs) (Memref.isWhole_whole _) (Memref.whole main_v1_scs) (Memref.isWhole_whole _) (Memref.whole cc0_scratch0) (Memref.isWhole_whole _) cc0_scratch1 cc0_scoped0)
          fun _ => iprop((vLoc d ↦{shr (core i)} X)
            ∗ ((Memref.whole main_arg1_scs).view.loc (thr d i) ↦{shr (core i)} ind)
            ∗ (oLoc d ↦[half (core i)]{fullShare} gat X ind)
            ∗ ((Memref.whole cc0_scratch0).view.loc (thr d i) ↦{fullShare} ind)
            ∗ semVal (thr d i, SemLoc.dma cc0_scratch1.sem) 0
            ∗ semVal (thr d i, SemLoc.dma cc0_scoped0.sem) 0
            ∗ ∃ W', ⌜∀ p ∈ W', p ∈ W ∨ p.2 = none⌝ ∗ owes (thr d i) O W') := by
  rw [cc0__sc_gather_eq_skeleton, deal_out, deal_out]
  unfold cc0__sc_gather_skel
  iintro ⟨#Hmw, Hv, Hi, Ho, Hs, Hg, Hc, HO⟩
  ihave Hv := (deal_in d i X ind).1 $$ Hv
  icases Hv with ⟨Hdrop, Hin, Hrest⟩
  sl_exec
  -- the sequencer's copy of the indices is the indices
  have hs : View.write (Elt F) (Memref.whole cc0_scratch0).view fs (seq_run.sl.dma0 d ind) Finset.univ = ind := by
    funext y
    exact ((Memref.whole cc0_scratch0).view.write_emb_of_mem fs _ (Finset.mem_univ y)).trans rfl
  rw [hs]
  -- the batch, nothing issued
  imod (Transfers.batch_alloc' (Lvl := ℕ) EC (thr d i) (none : HIx 1) amt (deliv d i X ind) (sm := .dma cc0_scratch1.sem) (E := Set.univ)) $$ Hg with HB
  sl_for (issueInv d i X ind fo) $$ [HB Hin Ho Hs]
  case region =>
    intro k acc
    exact issue_step d i X ind fo k acc
  · unfold issueInv bat
    rw [Ring.rangeSet_univ, bigSep_sep']
    isplitl [HB]; · iexact HB
    isplitl [Hin Ho]
    · isplitl [Hin]; · iexact Hin
      iexact Ho
    iexact Hs
  rw [show Scf.trips (k0_t1_loop i).lb (k0_t1_loop i).ub (k0_t1_loop i).st = 25 from trips1 i]
  unfold issueInv
  rw [Ring.bigSep_rangeSet_empty (le_refl 25)]
  iintro %_ ⟨HB, -, Hs⟩
  sl_for (fun _ _ => iprop(emp)) $$ []
  case region =>
    intro k _
    exact absurd k.isLt (Nat.not_lt.2 (Nat.le_trans (k0_t2_abs i).2.1 (Nat.zero_le _)))
  · iempintro
  iintro %_ -
  sl_for (drainInv d i X ind O W) $$ [HB HO]
  case region =>
    intro k acc
    exact drain_step d i X ind O W k acc
  · unfold drainInv
    rw [Nat.zero_mul]
    isplitl [HB]; · iexact HB
    isplitr; · iapply (Transfers.MayWaits.elim (SemLoc.dma cc0_scratch1.sem)); iexact Hmw
    iexists _
    isplitr
    rotate_left
    · iexact HO
    ipureintro
    intro p hp
    rcases Finset.mem_insert.mp hp with h | h
    · exact .inr (congrArg Prod.snd h)
    · exact .inl h
  rw [show Scf.trips (k0_t3_loop i).lb (k0_t3_loop i).ub (k0_t3_loop i).st = 25 from trips3 i]
  unfold drainInv
  iintro %_ ⟨HB, -, HO⟩
  sl_for (fun _ _ => iprop(emp)) $$ []
  case region =>
    intro k _
    exact absurd k.isLt (Nat.not_lt.2 (Nat.le_trans (k0_t4_abs i).2.1 (Nat.zero_le _)))
  · iempintro
  iintro %_ -
  sl_exec
  -- every unit waited for: the deliveries, and the semaphore at zero
  rw [Nat.mul_comm 25 amt]
  unfold bat
  imod (Transfers.batch_collect' EC (thr d i) amt_pos) $$ HB with ⟨HD, Hg⟩
  sl_step
  ihave HD := (Entails.of_eq (deliv_all d i X ind)) $$ HD
  icases HD with ⟨Ho, Hin⟩
  isplitl [Hdrop Hin Hrest]
  · iapply (deal_in d i X ind).2
    isplitl [Hdrop]; · iexact Hdrop
    isplitl [Hin]; · iexact Hin
    iexact Hrest
  isplitl [Hi]; · iexact Hi
  isplitl [Ho]; · iexact Ho
  isplitl [Hs]; · iexact Hs
  isplitl [Hg]; · iexact Hg
  isplitl [Hc]; · iexact Hc
  iexact HO

end Cert.Rows
-- ==== Proof.Call.lean ====
/- The call: what it hands the two sequencers and takes back, each sequencer's obligation, and the result array and the
   two inputs dealt to both and joined again. -/
module

public import proofs.«01_k».proof.Proof.Body

@[expose] public section

noncomputable section

namespace Cert.Rows

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The payload -/

/-- The table the call reads: the first argument transposed. -/
def tbl (d : Dev nD) : Buf (Elt F) (vLoc d) :=
  transpose S200x64x4096 [1, 2, 0] (m ((SparseCore.T d).loc main_arg0)) transposes_S4096x200x64_S200x64x4096_1_2_0
/-- The indices it reads: the second argument. -/
abbrev idx (d : Dev nD) : Buf (Elt F) (iLoc d) := m (iLoc d)
/-- What it leaves in the result array: row `j` is the table's row at index `j`. -/
abbrev rows (d : Dev nD) : Buf (Elt F) (oLoc d) := gat (tbl m d) (idx m d)

/-- SparseCore `c` gets its shares of the inputs and its rows of the result, and gives the rows back gathered. -/
def P : (K (F := F)).Pay (nD := nD) (Val := Elt F) (Name := ℕ) (U := UU) where
  st := fun | 0 => fun d c => iprop(∃ f, coreRes d (tbl m d) (idx m d) c f)
  dn := fun | 0 => fun d c => coreRes d (tbl m d) (idx m d) c (rows m d)
  go := fun _ _ _ _ => iprop(emp)
  td := fun _ _ _ _ => iprop(emp)
  x := fun _ _ => iprop(emp)

instance P_storable : (P m).IsStorable where
  st q d c := by match q with | 0 => unfold P; infer_instance
  dn q d c := by match q with | 0 => unfold P; infer_instance
  go q d c i := by match q with | 0 => unfold P; infer_instance
  td q d c i := by match q with | 0 => unfold P; infer_instance

/-! ## A sequencer's scratch and cells -/

omit [FloatOps F] in
/-- The sequencer's buffers: the copy of the indices, and the rest. -/
theorem scratch_split (d : Dev nD) (c : Fin τ.nSC) : (ownBufs (S d c) : sProp 𝕄)
    = iprop((∃ f, (S d c).loc cc0_scratch0 ↦{fullShare} f)
        ∗ bigSep ((ownRefs (τ := τ) (.scScalar c)).erase ((Proc.scScalar c).devRef cc0_scratch0)) fun b => iprop(∃ f, ((d, b) : Loc nD τ sig) ↦{fullShare} f)) := by
  unfold ownBufs
  exact SparseCore.bigSep_erase' ((mem_ownRefs (p := Proc.scScalar c) (b := (Proc.scScalar c).devRef cc0_scratch0)).mpr rfl)

/-- The two cells the body uses: the row copies' and the index copy's. -/
abbrev cellG (d : Dev nD) (c : Fin τ.nSC) : GSem nD τ sig := (S d c, .dma cc0_scratch1.sem)
abbrev cellC (d : Dev nD) (c : Fin τ.nSC) : GSem nD τ sig := (S d c, .dma cc0_scoped0.sem)

theorem cellG_own (d : Dev nD) (c : Fin τ.nSC) : cellG d c ∈ ownCells (S d c) :=
  mem_ownCells.mpr ⟨rfl, (show ∀ s : DmaSem sig, (SemLoc.dma s : SemLoc sig).isScoped .scScalar = true by decide) _⟩
theorem cellC_own (d : Dev nD) (c : Fin τ.nSC) : cellC d c ∈ (ownCells (S d c)).erase (cellG d c) :=
  Finset.mem_erase.mpr ⟨fun h => absurd (congrArg Prod.snd h) (show (SemLoc.dma cc0_scoped0.sem : SemLoc sig) ≠ .dma cc0_scratch1.sem by decide),
    mem_ownCells.mpr ⟨rfl, (show ∀ s : DmaSem sig, (SemLoc.dma s : SemLoc sig).isScoped .scScalar = true by decide) _⟩⟩

omit [FloatOps F] in
/-- The sequencer's semaphores at zero: those two, and the rest. -/
theorem cells_split (d : Dev nD) (c : Fin τ.nSC) : (ownSems0 (S d c) : sProp 𝕄)
    = iprop(semVal (cellG d c) 0 ∗ semVal (cellC d c) 0
        ∗ bigSep (((ownCells (S d c)).erase (cellG d c)).erase (cellC d c)) fun g => semVal g 0) := by
  unfold ownSems0
  rw [SparseCore.bigSep_erase' (cellG_own d c), SparseCore.bigSep_erase' (cellC_own d c)]

/-! ## The obligation -/

/-- The coordinates of SparseCore `c` on the kernel's grid. -/
def at0 (c : Fin (grid0.bound 0)) : grid0.Coords := fun | 0 => c | ⟨_ + 1, h⟩ => absurd h (Nat.not_lt.2 (Nat.le_add_left _ _))

/-- One sequencer's part of the call, its scratch and cells taken from its own and put back. -/
theorem seq_call (d : Dev nD) (c : Fin (grid0.bound 0)) (O : CellTallies nD τ sig (HIx 1)) (W : Waits sig (HIx 1)) (hO : ∀ g, O g none = 0) :
    (iprop(levAts (K (F := F)).L (K (F := F)).lev ∗ emp ∗ (∃ f, coreRes d (tbl m d) (idx m d) (core (at0 c)) f)
        ∗ scopedBufs (thr d (at0 c)) ∗ scopedSems0 (thr d (at0 c)) ∗ owes (thr d (at0 c)) O W) : sProp 𝕄)
      ⊢ wp frame (wpE (defs₀ (F := F)) 𝒱₀ (thr d (at0 c)) none) Set.univ
          (cc0__sc_gather (at0 c) (Memref.whole main_v0_scs) (Memref.isWhole_whole _) (Memref.whole main_arg1_scs) (Memref.isWhole_whole _) (Memref.whole main_v1_scs) (Memref.isWhole_whole _) (Memref.whole cc0_scratch0) (Memref.isWhole_whole _) cc0_scratch1 cc0_scoped0)
          fun _ => iprop(coreRes d (tbl m d) (idx m d) (core (at0 c)) (rows m d) ∗ scopedBufs (thr d (at0 c)) ∗ scopedSems0 (thr d (at0 c))
            ∗ ∃ W', ⌜∀ p ∈ W', p ∈ W ∨ p.2 = none ∨ p.2 = some (0 : Fin 1)⌝ ∗ owes (thr d (at0 c)) O W') := by
  rw [(K (F := F)).scopedBufs_S facts d _, SparseCore.Cfg.scopedSems0_S (Val := Elt F) d _, cells_split, scratch_split]
  unfold coreRes
  iintro ⟨#Hlv, -, ⟨%fo, Hv, Hi, Ho⟩, ⟨⟨⟨%fs, Hs⟩, Hbufs⟩, Htiles⟩, ⟨⟨HG, HC, Hsems⟩, HtileSems⟩, HO⟩
  ihave Hmw := ((K (F := F)).mayWaits_none (thr := thr d (at0 c)) hO) $$ Hlv
  iapply (wp_wand_r Idealize.ShloMosaic.frame (wpE (defs₀ (F := F)) 𝒱₀ (thr d (at0 c)) none) Set.univ)
  isplitl [Hv Hi Ho Hs HG HC HO]
  · iapply (seq_run d (at0 c) (tbl m d) (idx m d) fo O W fs)
    isplitr; · iexact Hmw
    isplitl [Hv]; · iexact Hv
    isplitl [Hi]; · iexact Hi
    isplitl [Ho]; · iexact Ho
    isplitl [Hs]; · iexact Hs
    isplitl [HG]; · iexact HG
    isplitl [HC]; · iexact HC
    iexact HO
  iintro %_ ⟨Hv, Hi, Ho, Hs, HG, HC, %W', %hW', HO⟩
  isplitl [Hv Hi Ho]
  · isplitl [Hv]; · iexact Hv
    isplitl [Hi]; · iexact Hi
    iexact Ho
  isplitl [Hs Hbufs Htiles]
  · isplitl [Hs Hbufs]
    · isplitl [Hs]; · iexists (idx m d); iexact Hs
      iexact Hbufs
    iexact Htiles
  isplitl [HG HC Hsems HtileSems]
  · isplitl [HG HC Hsems]
    · isplitl [HG]; · iexact HG
      isplitl [HC]; · iexact HC
      iexact Hsems
    iexact HtileSems
  iexists W'; isplitr
  · ipureintro; exact fun p hp => (hW' p hp).imp_right .inl
  · iexact HO

theorem defs₀_scalar (c : Fin τ.nSC) :
    defs₀ (F := F) (.scScalar c) 0 ()
      = SparseCore.onCore hcore0 (fun c => cc0__sc_gather (at0 c) (Memref.whole main_v0_scs) (Memref.isWhole_whole _) (Memref.whole main_arg1_scs) (Memref.isWhole_whole _) (Memref.whole main_v1_scs) (Memref.isWhole_whole _)
          (Memref.whole cc0_scratch0) (Memref.isWhole_whole _) cc0_scratch1 cc0_scoped0) ⟨⟩ c := rfl

theorem scalarObl : (K (F := F)).ScalarObl (D (F := F)) 𝒱 (P m) v₀ 0 := by
  intro d c O W hO _ _
  -- this kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact seq_call m d ⟨c.val, hc⟩ O W hO

/-! ## Dealing the arrays to the two SparseCores -/

omit [FloatOps F] in
/-- An array held whole is its two halves' shares. -/
theorem shr_split (ℓ : Loc nD τ sig) (f : Buf (Elt F) ℓ) : (ℓ ↦{fullShare} f : sProp 𝕄) = iprop((ℓ ↦{shr 0} f) ∗ ℓ ↦{shr 1} f) :=
  (pointsTo_share (PosShare.mem_left_op_right _)).1.antisymm (pointsTo_share (PosShare.mem_left_op_right _)).2

omit [FloatOps F] in
theorem two (Q : Fin 2 → sProp 𝕄) : (bigSep Finset.univ Q) = iprop(Q 0 ∗ Q 1) := by
  rw [show (Finset.univ : Finset (Fin 2)) = {0, 1} by decide, SparseCore.bigSep_insert' (by decide), bigSep_singleton]

omit [FloatOps F] in
/-- The result array held whole is the two SparseCores' rows. -/
theorem half_split (d : Dev nD) (f : Buf (Elt F) (oLoc d)) :
    (oLoc d ↦{fullShare} f : sProp 𝕄) = iprop((oLoc d ↦[half 0]{fullShare} f) ∗ oLoc d ↦[half 1]{fullShare} f) := by
  rw [← two fun c => iprop(oLoc d ↦[half c]{fullShare} f)]
  rw [← pointsTo_biUnion (ℓ := oLoc d) Finset.univ half (fun b _ b' _ h => half_disjoint b b' h), half_cover]

omit [FloatOps F] in
/-- The three arrays held whole are the two SparseCores' parts. -/
theorem deal (d : Dev nD) (X : Buf (Elt F) (vLoc d)) (ind : Buf (Elt F) (iLoc d)) (f : Buf (Elt F) (oLoc d)) :
    (iprop((vLoc d ↦{fullShare} X) ∗ (iLoc d ↦{fullShare} ind) ∗ (oLoc d ↦{fullShare} f)) : sProp 𝕄)
      ⊣⊢ iprop(coreRes d X ind 0 f ∗ coreRes d X ind 1 f) := by
  rw [shr_split (vLoc d), shr_split (iLoc d), half_split]
  unfold coreRes
  constructor
  · iintro ⟨⟨Hv, Hv'⟩, ⟨Hi, Hi'⟩, Ho, Ho'⟩
    isplitl [Hv Hi Ho]
    · isplitl [Hv]; · iexact Hv
      isplitl [Hi]; · iexact Hi
      iexact Ho
    · isplitl [Hv']; · iexact Hv'
      isplitl [Hi']; · iexact Hi'
      iexact Ho'
  · iintro ⟨⟨Hv, Hi, Ho⟩, Hv', Hi', Ho'⟩
    isplitl [Hv Hv']
    · isplitl [Hv]; · iexact Hv
      iexact Hv'
    isplitl [Hi Hi']
    · isplitl [Hi]; · iexact Hi
      iexact Hi'
    isplitl [Ho]; · iexact Ho
    iexact Ho'

theorem st_eq (d : Dev nD) : (bigSep Finset.univ fun c : Fin ((K (F := F)).nCore 0) => (P m).st 0 d c)
    = iprop((∃ f, coreRes d (tbl m d) (idx m d) 0 f) ∗ ∃ f, coreRes d (tbl m d) (idx m d) 1 f) :=
  two fun c => iprop(∃ f, coreRes d (tbl m d) (idx m d) c f)
theorem dn_eq (d : Dev nD) : (bigSep Finset.univ fun c : Fin ((K (F := F)).nCore 0) => (P m).dn 0 d c)
    = iprop(coreRes d (tbl m d) (idx m d) 0 (rows m d) ∗ coreRes d (tbl m d) (idx m d) 1 (rows m d)) :=
  two fun c => coreRes d (tbl m d) (idx m d) c (rows m d)

end Cert.Rows
-- ==== Proof.Launch.lean ====
/- The whole program's run: the transpose into the table, the call, the transpose back, on the TensorCore; the launch of
   every thread; the frame and the result array's value. -/
module

public import proofs.«01_k».proof.Proof.Call

@[expose] public section

noncomputable section

namespace Cert.Rows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at the launch: the handshakes' rounds, and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_univ_of_subsingleton (0 : Fin 1)).trans (bigSep_emp_const _)
  have he : (bigSep Finset.univ fun _ : Dev nD => iprop(emp)) = (iprop(emp) : sProp 𝕄) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitr; · iempintro
  iempintro

/-! ## @main's arrays and operations -/

abbrev bA : DevRef τ sig := Proc.devRef .tc (main_arg0 : Ref sig .tc)
abbrev bI : DevRef τ sig := Proc.devRef .tc (main_arg1 : Ref sig .tc)
abbrev bV : DevRef τ sig := Proc.devRef .tc (main_v0 : Ref sig .tc)
abbrev bO : DevRef τ sig := Proc.devRef .tc (main_v1 : Ref sig .tc)
abbrev bR : DevRef τ sig := Proc.devRef .tc (main_v2 : Ref sig .tc)

abbrev aLoc (d : Dev nD) : Loc nD τ sig := (SparseCore.T d).loc main_arg0
abbrev rLoc (d : Dev nD) : Loc nD τ sig := (SparseCore.T d).loc main_v2

/-- The transpose into the table, and the transpose back. -/
abbrev opIn : HloOp τ sig (Elt F) := StableHlo.unary main_arg0 main_v0
  ((transpose S200x64x4096 [1, 2, 0] · transposes_S4096x200x64_S200x64x4096_1_2_0) : (⟨S4096x200x64, .f32⟩ : BufTy).Contents (Elt F) → (⟨S200x64x4096, .f32⟩ : BufTy).Contents (Elt F))
abbrev opOut : HloOp τ sig (Elt F) := StableHlo.unary main_v1 main_v2
  ((transpose S4096x50x64 [2, 0, 1] · transposes_S50x64x4096_S4096x50x64_2_0_1) : (⟨S50x64x4096, .f32⟩ : BufTy).Contents (Elt F) → (⟨S4096x50x64, .f32⟩ : BufTy).Contents (Elt F))

/-- The result array: the gathered rows transposed back. -/
def out (d : Dev nD) : Buf (Elt F) (rLoc d) := transpose S4096x50x64 [2, 0, 1] (rows m d) transposes_S50x64x4096_S4096x50x64_2_0_1

abbrev arrays : Finset (DevRef τ sig) := {bA, bI, bV, bO, bR}

omit [FloatOps F] in
theorem held_arrays (d : Dev nD) (W : Valuation τ sig (Elt F)) : (held (T d) arrays W : sProp 𝕄)
    = iprop((aLoc d ↦{fullShare} W bA) ∗ (iLoc d ↦{fullShare} W bI) ∗ (vLoc d ↦{fullShare} W bV) ∗ (oLoc d ↦{fullShare} W bO) ∗ rLoc d ↦{fullShare} W bR) := by
  unfold held arrays
  rw [SparseCore.bigSep_insert' (by decide), SparseCore.bigSep_insert' (by decide), SparseCore.bigSep_insert' (by decide),
    SparseCore.bigSep_insert' (by decide), bigSep_singleton]

omit [FloatOps F] in
theorem unscoped_arrays (d : Dev nD) :
    (unscopedBufs d (fun b => m ((SparseCore.T d).loc b)) : sProp 𝕄) = held (T d) arrays (fun b => m (d, b)) := by
  rw [held_arrays]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays' contents once the table is written, and once the call returns. -/
def before (d : Dev nD) : Valuation τ sig (Elt F) := (opIn (F := F)).result (fun b => m (d, b))
def after (d : Dev nD) : Valuation τ sig (Elt F) := Function.update (before m d) bO (rows m d)

theorem before_keeps (d : Dev nD) (b : DevRef τ sig) (h : b ∉ ({bV} : Finset (DevRef τ sig))) : before m d b = m (d, b) :=
  (opIn (F := F)).result_of_not_mem _ h
theorem before_table (d : Dev nD) : before m d bV = tbl m d := StableHlo.unary_result _ _ _ _ _ _

theorem held_before (d : Dev nD) : (held (T d) arrays ((opIn (F := F)).result fun b => m (d, b)) : sProp 𝕄)
    = iprop((aLoc d ↦{fullShare} m (aLoc d)) ∗ (iLoc d ↦{fullShare} idx m d) ∗ (vLoc d ↦{fullShare} tbl m d)
        ∗ (oLoc d ↦{fullShare} m (oLoc d)) ∗ rLoc d ↦{fullShare} m (rLoc d)) := by
  show held (T d) arrays (before m d) = _
  rw [held_arrays, before_keeps m d bA (by decide), before_keeps m d bI (by decide), before_keeps m d bO (by decide),
    before_keeps m d bR (by decide), before_table]

theorem held_after (d : Dev nD) : (held (T d) arrays (after m d) : sProp 𝕄)
    = iprop((aLoc d ↦{fullShare} m (aLoc d)) ∗ (iLoc d ↦{fullShare} idx m d) ∗ (vLoc d ↦{fullShare} tbl m d)
        ∗ (oLoc d ↦{fullShare} rows m d) ∗ rLoc d ↦{fullShare} m (rLoc d)) := by
  have h : ∀ b, b ≠ bO → after m d b = before m d b := fun b hb => Function.update_of_ne hb _ _
  rw [held_arrays, h bA (by decide), h bI (by decide), h bV (by decide), h bR (by decide), before_keeps m d bA (by decide),
    before_keeps m d bI (by decide), before_keeps m d bR (by decide), before_table, show after m d bO = rows m d from Function.update_self _ _ _]

theorem held_end (d : Dev nD) : (held (T d) arrays ((opOut (F := F)).result (after m d)) : sProp 𝕄)
    ⊢ iprop((aLoc d ↦{fullShare} m (aLoc d)) ∗ (iLoc d ↦{fullShare} idx m d) ∗ rLoc d ↦{fullShare} out m d) := by
  have h : ∀ b, b ∉ ({bR} : Finset (DevRef τ sig)) → (opOut (F := F)).result (after m d) b = after m d b :=
    fun b hb => (opOut (F := F)).result_of_not_mem _ hb
  have ha : ∀ b, b ≠ bO → after m d b = before m d b := fun b hb => Function.update_of_ne hb _ _
  rw [held_arrays, h bA (by decide), h bI (by decide), ha bA (by decide), ha bI (by decide), before_keeps m d bA (by decide),
    before_keeps m d bI (by decide),
    show (opOut (F := F)).result (after m d) bR = out m d from
      (StableHlo.unary_result _ _ _ _ _ _).trans (by rw [show after m d bO = rows m d from Function.update_self _ _ _]; rfl)]
  iintro ⟨Ha, Hi, -, -, Hr⟩
  isplitl [Ha]; · iexact Ha
  isplitl [Hi]; · iexact Hi
  iexact Hr

theorem opIn_sub : (opIn (F := F)).bufs ⊆ arrays := show ({bA, bV} : Finset (DevRef τ sig)) ⊆ arrays by decide
theorem opOut_sub : (opOut (F := F)).bufs ⊆ arrays := show ({bO, bR} : Finset (DevRef τ sig)) ⊆ arrays by decide

/-! ## @main on the TensorCore -/

/-- What @main leaves the claims: the arguments at their launch contents, the result array at `out`. -/
abbrev FIN (d : Dev nD) : sProp 𝕄 := iprop((aLoc d ↦{fullShare} m (aLoc d)) ∗ (iLoc d ↦{fullShare} idx m d) ∗ rLoc d ↦{fullShare} out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  -- the table
  iapply (wp_hlo_within 𝒱 (SparseCore.T d) none Set.univ (op := opIn) (S := arrays) opIn_sub (V := fun b => m (d, b))) $$ [Hb Hheld]
  · isplitl [Hb] <;> iassumption
  iintro ⟨Hb, Hheld⟩
  rw [wp_ret]; imodintro
  ihave Hh := (Entails.of_eq (held_before m d)) $$ Hheld
  icases Hh with ⟨Ha, Hi, Hv, Ho, Hr⟩
  -- the call: each SparseCore its part, and back
  ihave Hp := (deal d (tbl m d) (idx m d) (m (oLoc d))).1 $$ [Hv Hi Ho]
  · isplitl [Hv]; · iexact Hv
    isplitl [Hi]; · iexact Hi
    iexact Ho
  icases Hp with ⟨H0, H1⟩
  iapply ((K (F := F)).wp_run (D (F := F)) 𝒱 (EH := EH) (P := P m) κ d 0) $$ [Hst H0 H1 Hb Ha Hr Hts]
  isplitr; · iexact Hctx
  isplitl [Hst]; · iexact Hst
  isplitl [H0 H1]
  · rw [st_eq]
    isplitl [H0]; · iexists _; iexact H0
    iexists _; iexact H1
  iintro ⟨Hst, Hdn⟩
  ihave Hdn' := (Entails.of_eq (dn_eq m d)) $$ Hdn
  ihave Hp := (deal d (tbl m d) (idx m d) (rows m d)).2 $$ Hdn'
  icases Hp with ⟨Hv, Hi, Ho⟩
  -- the transpose back
  iapply (wp_hlo_within 𝒱 (SparseCore.T d) none Set.univ (op := opOut) (S := arrays) opOut_sub (V := after m d)) $$ [Hb Ha Hi Hv Ho Hr]
  · isplitl [Hb]; · iexact Hb
    rw [held_after]
    isplitl [Ha]; · iexact Ha
    isplitl [Hi]; · iexact Hi
    isplitl [Hv]; · iexact Hv
    isplitl [Ho]; · iexact Ho
    iexact Hr
  iintro ⟨Hb, Hheld⟩
  rw [wp_ret]; imodintro; imodintro
  isplitl [Hst]; · iexact Hst
  isplitl [Hheld]; · iapply (held_end m d); iexact Hheld
  isplitl [Hb] <;> iassumption

/-! ## The run -/

/-- What the claims read of device `d`'s final memory. -/
def fq (d : Dev nD) (s' : Phys nD τ sig (Elt F)) : Prop :=
  s'.mem.mem (rLoc d) = out m d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := iLoc d) (I := Finset.univ) (q := fullShare) (f := idx m d))) $$ [HSI Hi]
  · isplitl [HSI] <;> iassumption
  icases H with ⟨%hi, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun y => hr y (Finset.mem_univ y), funext fun y => ha y (Finset.mem_univ y), funext fun y => hi y (Finset.mem_univ y)⟩

/-- After the run: on every device the result array at `out`, the arguments unchanged; every counter at zero. -/
def ends : PUnit × MemSt nD τ sig (Elt F) → Prop := fun r =>
  (∀ c : Dev nD, r.2.mem (rLoc c) = out m c ∧ r.2.mem (aLoc c) = m (aLoc c) ∧ r.2.mem (iLoc c) = m (iLoc c)) ∧ r.2.sem = fun _ => 0

theorem run_main [∀ e, Nonempty (Elt F e)] : θ_run (Cert.KernelIdeal.defs (F := F)) (Cert.KernelIdeal.threads (F := F)) ⟨m, fun _ => 0, ρ⟩ (ends m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (ends m) (fun _ h hz => ⟨h, hz⟩)

end Cert.Rows
-- ==== Proof.RefValue.lean ====
/- The reference's value: its result at `(n, j, k)` is the first argument at `(n, index j mod 200, k)`. -/
module

public import proofs.«01_k».proof.Proof.Rows
public import proofs.«01_k».proof.Proof.Gen.ReferenceIdeal.Run

@[expose] public section

noncomputable section

namespace Cert.Rows

open Cert.ReferenceIdeal Cert.ReferenceIdeal.Gen
open Idealize.ShloMosaic Idealize.ShloMosaic.TcCoe

variable {F : FTy → Type} [FloatOps F]

/-- The value both programs end with: row `j` of every block of the first argument's, at the row index `j` names. -/
def taken (A : S4096x200x64.Idx → Elt F .f32) (ind : S50.Idx → Elt F .i32) : S4096x50x64.Idx → Elt F .f32 :=
  fun y => A (ix3 (n0 := 4096) (n1 := 200) (n2 := 64) (y 0) (rowF (ind (ix1 (n0 := 50) (y 1)))) (y 2))

/-- The precondition, read at an index. -/
theorem pre_at [Cert.Pre_no_overflow.Facts] (A : FVec F S4096x200x64 .f32) (ind : S50.Idx → Elt F .i32)
    (h : Cert.Pre_no_overflow.fn (F := F) A ind = fun _ => 1#1) (j : S50.Idx) : (ind j).toInt ≤ 2147483447 := by
  have e : BitVec.ofBool ((ind j).sle 2147483447#32) = 1#1 := congrFun h j
  rcases hb : (ind j).sle 2147483447#32 with _ | _
  · rw [hb] at e; exact absurd e (by decide)
  · rw [BitVec.sle, show (2147483447#32 : BitVec 32).toInt = 2147483447 by decide] at hb
    exact of_decide_eq_true hb

/-- The rows the reference looks up, as one column. -/
def starts (ind : S50.Idx → Elt F .i32) : IVec S50x1 32 := fun b => startW (ind (ix1 (n0 := 50) (b 0)))

omit [FloatOps F] in
theorem starts_eq (ind : S50.Idx → Elt F .i32) (h : ∀ j, (ind j).toInt ≤ 2147483447) (b : S50x1.Idx) :
    starts ind b = rowW (ind (ix1 (n0 := 50) (b 0))) := startW_eq _ (h _)

/-- A reduction by `and` of a mask that is true everywhere, from true, is true. -/
theorem reduce_true {s t u : Shape} {axes : List (Fin s.rank)} (x : s.Idx → BitVec 1) (init : u.Idx → BitVec 1) (hr : s.ReducesTo axes t)
    (hu : 0 < u.numel) (hx : ∀ i, x i = 1#1) (hi : ∀ i, init i = 1#1) (j : t.Idx) : Host.reduce IntOp.andi x init hr hu j = 1#1 := by
  unfold Host.reduce
  rw [hi]
  generalize (List.finRange s.numel).filter _ = l
  induction l with
  | nil => rfl
  | cons n l ih => rw [List.foldl_cons, hx, show IntOp.andi 1#1 1#1 = 1#1 from rfl]; exact ih

/-- The reference's lookup at an index, when the row it is given lies in the table. -/
theorem gather_at (A : S4096x200x64.Idx → Elt F .f32) (idx : IVec S50x1 32) (y : S4096x50x64.Idx) (r : Fin 200)
    (hr : (idx (ix2 (n0 := 50) (n1 := 1) (y 1) 0)).toInt = r.val) :
    Host.gather gather_S4096x200x64_S50x1_S4096x50x64_02_1_n_n_1_1_4096164 A idx y
      = A (ix3 (n0 := 4096) (n1 := 200) (n2 := 64) (y 0) r (y 2)) := by
  unfold Host.gather
  congr 1
  funext a
  refine Fin.ext ?_
  show GatherDims.start _ y idx a + GatherDims.batchCoord _ y a + GatherDims.offCoord _ y a = _
  rw [GatherDims.batchCoord_eq_zero _ _ _ List.not_mem_nil, Nat.add_zero]
  match a with
  | ⟨0, _⟩ =>
    show 0 + (y 0).val = (y 0).val
    omega
  | ⟨1, _⟩ =>
    have hs : GatherDims.siIdx gather_S4096x200x64_S50x1_S4096x50x64_02_1_n_n_1_1_4096164 y ⟨0, Nat.one_pos⟩
        = ix2 (n0 := 50) (n1 := 1) (y 1) 0 := by
      funext b
      match b with
      | ⟨0, _⟩ => rfl
      | ⟨1, _⟩ => rfl
    show min (idx (GatherDims.siIdx gather_S4096x200x64_S50x1_S4096x50x64_02_1_n_n_1_1_4096164 y ⟨0, Nat.one_pos⟩)).toInt.toNat 199 + 0 = r.val
    rw [hs, hr]
    have := r.isLt
    omega
  | ⟨2, _⟩ =>
    show 0 + (y 2).val = (y 2).val
    omega

variable (m : (ℓ : Loc nD τ sig) → Buf (Elt F) ℓ) (c : Dev nD)

/-- The printed result: the lookup of `starts`, kept where `starts` lies in the table. -/
theorem res_eq : Value.res_out0 m c
    = select (broadcastInDim S4096x50x64 ![1] bcast_S50_S4096x50x64_1
        (Host.reduce IntOp.andi (fun b => IntOp.andi (IntOp.cmpi .sge (starts (m ((c.tc : Thread nD τ).loc main_arg1)) b) 0#32)
            (IntOp.cmpi .sle (starts (m ((c.tc : Thread nD τ).loc main_arg1)) b) 199#32)) (constantI S_ 1 1#1) reducesTo_S50x1_S50_d1 h_S_))
      (Host.gather gather_S4096x200x64_S50x1_S4096x50x64_02_1_n_n_1_1_4096164 (m ((c.tc : Thread nD τ).loc main_arg0))
        (starts (m ((c.tc : Thread nD τ).loc main_arg1))))
      (broadcastInDim S4096x50x64 ![] bcast_S_S4096x50x64 (constant S_ .f32 0x7FC00000#32)) := by
  have hst : broadcastInDim S50x1 ![0] bcast_S50_S50x1_0 (fun j : S50.Idx => startW (m ((c.tc : Thread nD τ).loc main_arg1) j))
      = starts (m ((c.tc : Thread nD τ).loc main_arg1)) := by
    funext b
    unfold broadcastInDim starts
    congr 2
    funext a
    obtain rfl : a = 0 := Subsingleton.elim _ _
    rfl
  rw [← hst]
  rfl

/-- The reference's result, when no sum with 200 leaves the word. -/
theorem ref_value (h : ∀ j, (m ((c.tc : Thread nD τ).loc main_arg1) j).toInt ≤ 2147483447) :
    Value.res_out0 m c = taken (m ((c.tc : Thread nD τ).loc main_arg0)) (m ((c.tc : Thread nD τ).loc main_arg1)) := by
  rw [res_eq]
  funext y
  have hmask : broadcastInDim S4096x50x64 ![1] bcast_S50_S4096x50x64_1
        (Host.reduce IntOp.andi (fun b => IntOp.andi (IntOp.cmpi .sge (starts (m ((c.tc : Thread nD τ).loc main_arg1)) b) 0#32)
            (IntOp.cmpi .sle (starts (m ((c.tc : Thread nD τ).loc main_arg1)) b) 199#32)) (constantI S_ 1 1#1) reducesTo_S50x1_S50_d1 h_S_) y = 1#1 :=
    reduce_true _ _ _ _ (fun b => by rw [starts_eq _ h]; exact inRange _) (fun _ => rfl) _
  refine (if_pos hmask).trans ?_
  refine gather_at _ _ y (rowF (m ((c.tc : Thread nD τ).loc main_arg1) (ix1 (n0 := 50) (y 1)))) ?_
  rw [starts_eq _ h, toInt_rowW]
  exact (toNat_rowW _).symm

end Cert.Rows
-- ==== Proof.Value.lean ====
/- The kernel's result array is the reference's: the two transposes around the gathered rows. -/
module

public import proofs.«01_k».proof.Proof.Launch
public import proofs.«01_k».proof.Proof.RefValue

@[expose] public section

noncomputable section

namespace Cert.Rows

open Cert.KernelIdeal Cert.KernelIdeal.Gen
open Idealize.ShloMosaic

variable {F : FTy → Type} [FloatOps F]

/-- The gathered rows transposed back are `taken` of the arguments. -/
theorem out_eq (m : (ℓ : Loc nD τ sig) → Buf (Elt F) ℓ) (d : Dev nD) : out m d = taken (m (aLoc d)) (m (iLoc d)) := by
  funext y
  show gat (tbl m d) (idx m d) (transposes_S50x64x4096_S4096x50x64_2_0_1.src y) = _
  have hy : transposes_S50x64x4096_S4096x50x64_2_0_1.src y = ix3 (n0 := 50) (n1 := 64) (n2 := 4096) (y 1) (y 2) (y 0) := by
    funext a
    match a with
    | ⟨0, _⟩ => rfl
    | ⟨1, _⟩ => rfl
    | ⟨2, _⟩ => rfl
  rw [hy]
  show m (aLoc d) (transposes_S4096x200x64_S200x64x4096_1_2_0.src (ix3 (rowF (idx m d (ix1 (y 1)))) (y 2) (y 0))) = m (aLoc d) _
  congr 1
  funext a
  match a with
  | ⟨0, _⟩ => rfl
  | ⟨1, _⟩ => rfl
  | ⟨2, _⟩ => rfl

end Cert.Rows
-- ==== Proof.lean ====
/- The certificate: every claim of Defs.lean, from one run of the kernel over any float values (Proof/Launch.lean), the
   reference's run, and the two results' equality (Proof/Value.lean, Proof/RefValue.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_no_overflow
public import proofs.«01_k».proof.Proof.Value
public import Idealize.ShloMosaic.Adequacy
public import Idealize.ShloMosaic.Init

@[expose] public section

noncomputable section

namespace Cert.Proof

open Idealize.ShloMosaic Idealize.SL.Sem Cert.Rows

/-! ## The frames -/

/-- The ideal kernel: the run, its value dropped. -/
theorem frame_ideal : Cert.quiescent_KernelIdeal := fun m ρ _ =>
  (θ_run Cert.KernelIdeal.defs _ _).mono (fun _ h => ⟨fun c => (h.1 c).2, h.2⟩) (run_main (F := Ideal) m ρ)

/-- The kernel: the same run, at the words. -/
theorem frame_kernel : Cert.quiescent_Kernel := fun m ρ _ =>
  (θ_run Cert.KernelIdeal.defs _ _).mono (fun _ h => ⟨fun c => (h.1 c).2, h.2⟩) (run_main (F := Bits) m ρ)

/-- The ideal reference: its run, which has no semaphore. -/
theorem frame_ref_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference, at the words. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- Both programs over any float values, from the same arguments: the result arrays hold `taken` of them. -/
theorem same_value {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (hpre : ∀ c : Dev Cert.KernelIdeal.nD, Cert.Pre_no_overflow.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.KernelIdeal.defs (F := F)) (Cert.KernelIdeal.threads (F := F)) ⟨m, fun _ => 0, g⟩ (fun r => ∀ c : Dev Cert.KernelIdeal.nD,
        r.2.mem (rLoc c) = taken (m (aLoc c)) (m (iLoc c)) ∧ r.2.mem (aLoc c) = m (aLoc c) ∧ r.2.mem (iLoc c) = m (iLoc c))
    ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
        r.2.mem ((c.tc : Thread Cert.ReferenceIdeal.nD Cert.ReferenceIdeal.τ).loc Cert.ReferenceIdeal.main_v3) = taken (m (aLoc c)) (m (iLoc c))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine ⟨(θ_run Cert.KernelIdeal.defs _ _).mono (fun _ h c => ⟨((h.1 c).1).trans (out_eq m c), (h.1 c).2⟩) (run_main m g), ?_⟩
  refine (θ_run Cert.ReferenceIdeal.defs _ _).mono (fun _ h c => ⟨(h c).1.trans ?_, (h c).2⟩) (Cert.ReferenceIdeal.Value.run m' g')
  have hi := (hagree c).2
  have hlow := pre_at _ _ (hpre c)
  refine (ref_value m' c fun j => ?_).trans ?_
  · rw [hi]; exact hlow j
  · rw [hi, (hagree c).1]

/-- Over the extended reals. -/
theorem algebraic : Cert.algebraic_KernelIdeal_ReferenceIdeal_pre_no_overflow := fun m g m' g' hpre hagree =>
  ⟨fun c => taken (m (aLoc c)) (m (iLoc c)), same_value (F := Ideal) m g m' g' hpre hagree⟩

/-- At the words. -/
theorem bitexact : Cert.bitexact_Kernel_Reference_pre_no_overflow := fun m g m' g' hpre hagree =>
  ⟨fun c => taken (F := Bits) (m (aLoc c)) (m (iLoc c)), same_value (F := Bits) m g m' g' hpre hagree⟩

theorem claim : Cert.Claim :=
  ⟨Cert.Kernel.Gen.facts, Cert.KernelIdeal.Gen.facts, Cert.ReferenceIdeal.Gen.facts, Cert.Reference.Gen.facts, Cert.Pre_no_overflow.Gen.facts,
    frame_kernel, fun m g _ => frame_kernel m g trivial, frame_ideal, fun m g _ => frame_ideal m g trivial,
    frame_ref_ideal, fun m g _ => frame_ref_ideal m g trivial, frame_ref, trivial, algebraic, bitexact⟩

end Cert.Proof

end
